-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x32 : Shape := ⟨3, ![16, 2048, 32]⟩
abbrev S32x2x32 : Shape := ⟨3, ![32, 2, 32]⟩
abbrev S32x32 : Shape := ⟨2, ![32, 32]⟩
abbrev S32x32x1 : Shape := ⟨3, ![32, 32, 1]⟩
abbrev S32x1 : Shape := ⟨2, ![32, 1]⟩
abbrev S2x32x32 : Shape := ⟨3, ![2, 32, 32]⟩
abbrev S2x1024 : Shape := ⟨2, ![2, 1024]⟩
abbrev S1x1024 : Shape := ⟨2, ![1, 1024]⟩
abbrev S1024x1 : Shape := ⟨2, ![1024, 1]⟩
abbrev S1x32 : Shape := ⟨2, ![1, 32]⟩
abbrev S16x1x4096 : Shape := ⟨3, ![16, 1, 4096]⟩
abbrev S16x4096x64 : Shape := ⟨3, ![16, 4096, 64]⟩
abbrev S16x4096 : Shape := ⟨2, ![16, 4096]⟩
abbrev S1x2048x32 : Shape := ⟨3, ![1, 2048, 32]⟩
abbrev S1x1x4096 : Shape := ⟨3, ![1, 1, 4096]⟩
abbrev S1x4096x64 : Shape := ⟨3, ![1, 4096, 64]⟩
abbrev S2048x32 : Shape := ⟨2, ![2048, 32]⟩
abbrev S1024x32 : Shape := ⟨2, ![1024, 32]⟩
abbrev S1024 : Shape := ⟨1, ![1024]⟩
abbrev S32 : Shape := ⟨1, ![32]⟩
abbrev S512x1 : Shape := ⟨2, ![512, 1]⟩
abbrev S512x1024 : Shape := ⟨2, ![512, 1024]⟩
abbrev S512x32 : Shape := ⟨2, ![512, 32]⟩
abbrev S1x4096 : Shape := ⟨2, ![1, 4096]⟩
abbrev S2048x64 : Shape := ⟨2, ![2048, 64]⟩
abbrev S1x2048x64 : Shape := ⟨3, ![1, 2048, 64]⟩

abbrev nBuf : Space → Nat
  | .hbm => 16
  | .vmem => 15
  | .smem => 0
  | _ => 0

abbrev bufTy : (tb : Table) → Fin (tcTables nBuf tb) → BufTy
  | .hbm, ⟨0, _⟩ => ⟨S16x2048x32, .f32⟩
  | .hbm, ⟨1, _⟩ => ⟨S32x2x32, .f32⟩
  | .hbm, ⟨2, _⟩ => ⟨S32x32, .f32⟩
  | .hbm, ⟨3, _⟩ => ⟨S32x32x1, .f32⟩
  | .hbm, ⟨4, _⟩ => ⟨S32x1, .f32⟩
  | .hbm, ⟨5, _⟩ => ⟨S2x32x32, .f32⟩
  | .hbm, ⟨6, _⟩ => ⟨S2x1024, .f32⟩
  | .hbm, ⟨7, _⟩ => ⟨S1x1024, .f32⟩
  | .hbm, ⟨8, _⟩ => ⟨S1024x1, .f32⟩
  | .hbm, ⟨9, _⟩ => ⟨S1x32, .f32⟩
  | .hbm, ⟨10, _⟩ => ⟨S16x1x4096, .f32⟩
  | .hbm, ⟨11, _⟩ => ⟨S16x4096x64, .f32⟩
  | .hbm, ⟨12, _⟩ => ⟨S16x1x4096, .f32⟩
  | .hbm, ⟨13, _⟩ => ⟨S16x4096x64, .f32⟩
  | .hbm, ⟨14, _⟩ => ⟨S16x4096, .f32⟩
  | .hbm, ⟨15, _⟩ => ⟨S16x4096, .f32⟩
  | .local _ .vmem, ⟨0, _⟩ => ⟨S1x2048x32, .f32⟩
  | .local _ .vmem, ⟨1, _⟩ => ⟨S1x2048x32, .f32⟩
  | .local _ .vmem, ⟨2, _⟩ => ⟨S2x1024, .f32⟩
  | .local _ .vmem, ⟨3, _⟩ => ⟨S1x1024, .f32⟩
  | .local _ .vmem, ⟨4, _⟩ => ⟨S1024x1, .f32⟩
  | .local _ .vmem, ⟨5, _⟩ => ⟨S1x32, .f32⟩
  | .local _ .vmem, ⟨6, _⟩ => ⟨S1x1x4096, .f32⟩
  | .local _ .vmem, ⟨7, _⟩ => ⟨S1x1x4096, .f32⟩
  | .local _ .vmem, ⟨8, _⟩ => ⟨S1x4096x64, .f32⟩
  | .local _ .vmem, ⟨9, _⟩ => ⟨S1x4096x64, .f32⟩
  | .local _ .vmem, ⟨10, _⟩ => ⟨S1x1x4096, .f32⟩
  | .local _ .vmem, ⟨11, _⟩ => ⟨S1x1x4096, .f32⟩
  | .local _ .vmem, ⟨12, _⟩ => ⟨S1x4096x64, .f32⟩
  | .local _ .vmem, ⟨13, _⟩ => ⟨S1x4096x64, .f32⟩
  | .local _ .vmem, ⟨14, _⟩ => ⟨S2048x32, .f32⟩
  | _, _ => ⟨S16x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5_0 : Ref sig .tc := ⟨.hbm, 10, rfl⟩
abbrev main_v0_1 : Ref sig .tc := ⟨.hbm, 11, rfl⟩
abbrev main_call0_v5_2 : Ref sig .tc := ⟨.hbm, 12, rfl⟩
abbrev main_v0_3 : Ref sig .tc := ⟨.hbm, 13, rfl⟩
abbrev main_v0_0 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x2048x32 : Shape := ⟨3, ![16, 2048, 32]⟩
abbrev S32x2x32 : Shape := ⟨3, ![32, 2, 32]⟩
abbrev S32x32 : Shape := ⟨2, ![32, 32]⟩
abbrev S32x32x1 : Shape := ⟨3, ![32, 32, 1]⟩
abbrev S32x1 : Shape := ⟨2, ![32, 1]⟩
abbrev S2048 : Shape := ⟨1, ![2048]⟩
abbrev S_ : Shape := ⟨0, ![]⟩
abbrev S16x2048 : Shape := ⟨2, ![16, 2048]⟩
abbrev S16x4096x32 : Shape := ⟨3, ![16, 4096, 32]⟩
abbrev S16x4096 : Shape := ⟨2, ![16, 4096]⟩
abbrev S16x4096x1 : Shape := ⟨3, ![16, 4096, 1]⟩
abbrev S16x4096x2 : Shape := ⟨3, ![16, 4096, 2]⟩
abbrev S16x4096x32x32 : Shape := ⟨4, ![16, 4096, 32, 32]⟩
abbrev S1x1x32x32 : Shape := ⟨4, ![1, 1, 32, 32]⟩
abbrev S32x1x16x4096 : Shape := ⟨4, ![32, 1, 16, 4096]⟩
abbrev S16x4096x32x1 : Shape := ⟨4, ![16, 4096, 32, 1]⟩
abbrev S1x1x32x1 : Shape := ⟨4, ![1, 1, 32, 1]⟩
abbrev S16x4096x64 : Shape := ⟨3, ![16, 4096, 64]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x32, .f32⟩
  | .hbm, ⟨1, _⟩ => ⟨S32x2x32, .f32⟩
  | .hbm, ⟨2, _⟩ => ⟨S32x32, .f32⟩
  | .hbm, ⟨3, _⟩ => ⟨S32x32x1, .f32⟩
  | .hbm, ⟨4, _⟩ => ⟨S32x1, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S16x2048, .f32⟩
  | .hbm, ⟨10, _⟩ => ⟨S_, .f32⟩
  | .hbm, ⟨11, _⟩ => ⟨S16x2048x32, .f32⟩
  | .hbm, ⟨12, _⟩ => ⟨S_, .f32⟩
  | .hbm, ⟨13, _⟩ => ⟨S16x2048x32, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S16x2048, .f32⟩
  | .hbm, ⟨19, _⟩ => ⟨S_, .f32⟩
  | .hbm, ⟨20, _⟩ => ⟨S16x2048x32, .f32⟩
  | .hbm, ⟨21, _⟩ => ⟨S_, .f32⟩
  | .hbm, ⟨22, _⟩ => ⟨S16x2048x32, .f32⟩
  | .hbm, ⟨23, _⟩ => ⟨S_, .f32⟩
  | .hbm, ⟨24, _⟩ => ⟨S16x2048x32, .f32⟩
  | .hbm, ⟨25, _⟩ => ⟨S16x4096x32, .f32⟩
  | .hbm, ⟨26, _⟩ => ⟨S16x4096, .f32⟩
  | .hbm, ⟨27, _⟩ => ⟨S16x4096x32, .f32⟩
  | .hbm, ⟨28, _⟩ => ⟨S16x4096x32, .f32⟩
  | .hbm, ⟨29, _⟩ => ⟨S16x4096, .f32⟩
  | .hbm, ⟨30, _⟩ => ⟨S16x4096x32, .f32⟩
  | .hbm, ⟨31, _⟩ => ⟨S_, .f32⟩
  | .hbm, ⟨32, _⟩ => ⟨S16x4096, .f32⟩
  | .hbm, ⟨33, _⟩ => ⟨S16x4096, .f32⟩
  | .hbm, ⟨34, _⟩ => ⟨S_, .f32⟩
  | .hbm, ⟨35, _⟩ => ⟨S16x4096, .f32⟩
  | .hbm, ⟨36, _⟩ => ⟨S16x4096, .f32⟩
  | .hbm, ⟨37, _⟩ => ⟨S16x4096, .f32⟩
  | .hbm, ⟨38, _⟩ => ⟨S16x4096, .f32⟩
  | .hbm, ⟨39, _⟩ => ⟨S16x4096x1, .f32⟩
  | .hbm, ⟨40, _⟩ => ⟨S16x4096x1, .f32⟩
  | .hbm, ⟨41, _⟩ => ⟨S16x4096x2, .f32⟩
  | .hbm, ⟨42, _⟩ => ⟨S16x4096x32x32, .f32⟩
  | .hbm, ⟨43, _⟩ => ⟨S1x1x32x32, .f32⟩
  | .hbm, ⟨44, _⟩ => ⟨S16x4096x32x32, .f32⟩
  | .hbm, ⟨45, _⟩ => ⟨S16x4096x32x32, .f32⟩
  | .hbm, ⟨46, _⟩ => ⟨S_, .f32⟩
  | .hbm, ⟨47, _⟩ => ⟨S16x4096x32x32, .f32⟩
  | .hbm, ⟨48, _⟩ => ⟨S16x4096x32x32, .f32⟩
  | .hbm, ⟨49, _⟩ => ⟨S32x1x16x4096, .f32⟩
  | .hbm, ⟨50, _⟩ => ⟨S16x4096x32x1, .f32⟩
  | .hbm, ⟨51, _⟩ => ⟨S1x1x32x1, .f32⟩
  | .hbm, ⟨52, _⟩ => ⟨S16x4096x32x1, .f32⟩
  | .hbm, ⟨53, _⟩ => ⟨S16x4096x32x1, .f32⟩
  | .hbm, ⟨54, _⟩ => ⟨S16x4096x32, .f32⟩
  | .hbm, ⟨55, _⟩ => ⟨S16x4096x32, .f32⟩
  | .hbm, ⟨56, _⟩ => ⟨S16x4096x32, .f32⟩
  | .hbm, ⟨57, _⟩ => ⟨S16x4096x32, .f32⟩
  | .hbm, ⟨58, _⟩ => ⟨S16x4096x64, .f32⟩
  | .hbm, ⟨59, _⟩ => ⟨S16x4096x64, .f32⟩
  | _, _ => ⟨S16x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_cst_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Proof.Spec.lean ====
/-
  The mathematics of the four results, over the argument arrays, with no program in it.

  A mark is a grid position `i / 2048`; its phase is `2π · i / 2048`. The baseline of channel `c` at position `i` is a two-layer
  network of the pair (sin phase, cos phase). The context's first 2048 rows are `x` less the baseline, beside a mask of ones;
  every other row is zero. The target's last 2048 rows are ones; every other row is zero.
-/
module

public import proofs.«01_k».proof.Defs
public import Idealize.ShloMosaic.Lib.Pipeline.ValueKit

@[expose] public section

set_option maxRecDepth 16384
noncomputable section

open Idealize.ShloMosaic

namespace Cert.Spec
open Cert.KernelIdeal

/-- The position `n` of the grid of 2048 as a fraction of its length. -/
def frac (n : ℕ) : EReal := ((n : ℝ) : EReal) * ((1 / 2048 : ℝ) : EReal)

/-- The phase of position `n`: the single-precision word nearest `2π`, read exactly, times the fraction. -/
def phase (n : ℕ) : EReal := Ideal.ofBits .f32 0x40C90FDB#32 * frac n

/-- The mark at row `r` of 4096: the grid of 2048 fractions, twice over. -/
def mark (r : ℕ) : EReal := if r < 2048 then frac r else frac (r - 2048)

/-- One hidden unit at position `n`: the two weights on sine and cosine, a bias, and the positive part. -/
def unit (ws wc b : EReal) (n : ℕ) : EReal := max (Ideal.sin (phase n) * ws + Ideal.cos (phase n) * wc + b) 0

/-- The baseline of channel `c` at position `n`. -/
def base (w1 : FVec Ideal S32x2x32 .f32) (b1 : FVec Ideal S32x32 .f32) (w2 : FVec Ideal S32x32x1 .f32) (b2 : FVec Ideal S32x1 .f32)
    (n : ℕ) (c : Fin 32) : EReal :=
  (∑ h : Fin 32, unit (w1 (ix3 c 0 h)) (w1 (ix3 c 1 h)) (b1 (ix2 c h)) n * w2 (ix3 c h 0)) + b2 (ix2 c 0)

/-- Both mark results: the mark of the row, the same in every batch. -/
def marks : FVec Ideal S16x4096 .f32 := fun i => mark (i 1)

/-- The context: on the first 2048 rows `x` less the baseline in columns below 32 and ones beside it, zero on the later rows. -/
def context (x : FVec Ideal S16x2048x32 .f32) (w1 : FVec Ideal S32x2x32 .f32) (b1 : FVec Ideal S32x32 .f32)
    (w2 : FVec Ideal S32x32x1 .f32) (b2 : FVec Ideal S32x1 .f32) : FVec Ideal S16x4096x64 .f32 := fun i =>
  if hr : (i 1).val < 2048 then
    if hc : (i 2).val < 32 then x (ix3 (i 0) ⟨(i 1).val, hr⟩ ⟨(i 2).val, hc⟩) - base w1 b1 w2 b2 (i 1).val ⟨(i 2).val, hc⟩ else 1
  else 0

/-- The target: zero on the first 2048 rows, one on the later ones. -/
def target : FVec Ideal S16x4096x64 .f32 := fun i => if (i 1).val < 2048 then 0 else 1

end Cert.Spec
end
-- ==== Proof.Words.lean ====
/-
  The scalar facts both programs rest on: the constants as real numbers, a small word converted to a float, and the word
  comparison that picks out one channel's 32 rows of the second-layer weights.
-/
module

public import proofs.«01_k».proof.Proof.Spec

@[expose] public section

set_option maxRecDepth 16384
noncomputable section

open Idealize.ShloMosaic

namespace Cert.Words
open Cert.Spec

/-- The single-precision word of 1/2048 is exactly 1/2048. -/
theorem ofBits_inv : Ideal.ofBits .f32 973078528#32 = ((1 / 2048 : ℝ) : EReal) := by
  simp [Ideal.ofBits, Ideal.ieee, -EReal.coe_mul]; norm_num

/-- The single-precision word of 2048 is exactly 2048. -/
theorem ofBits_len : Ideal.ofBits .f32 1157627904#32 = ((2048 : ℝ) : EReal) := by
  simp [Ideal.ofBits, Ideal.ieee, -EReal.coe_mul]; norm_num

/-- A word of a number below 2^31 converts to that number. -/
theorem sitofp_ofNat (n : ℕ) (h : n < 2 ^ 31) :
    (FloatOps.sitofp .f32 (BitVec.ofNat 32 n) : Ideal .f32) = (((n : ℕ) : ℝ) : EReal) := by
  show (((BitVec.ofNat 32 n).toInt : ℝ) : EReal) = _
  have : (BitVec.ofNat 32 n).toInt = (n : ℤ) := by
    rw [BitVec.toInt_eq_toNat_of_lt (by rw [BitVec.toNat_ofNat]; omega), BitVec.toNat_ofNat]; omega
  rw [this]; simp

/-- A converted position times 1/2048 is the position's fraction. -/
theorem frac_mul (n : ℕ) (h : n < 2 ^ 31) :
    (FloatOps.sitofp .f32 (BitVec.ofNat 32 n) : Ideal .f32) * Ideal.ofBits .f32 973078528#32 = frac n := by
  rw [sitofp_ofNat n h, ofBits_inv]; rfl

/-- A converted position divided by 2048 is the position's fraction. -/
theorem frac_div (n : ℕ) (h : n < 2 ^ 31) :
    Ideal.div (FloatOps.sitofp .f32 (BitVec.ofNat 32 n) : Ideal .f32) (Ideal.ofBits .f32 1157627904#32) = frac n := by
  rw [sitofp_ofNat n h, ofBits_len, Ideal.div_coe (by norm_num)]; rfl

/-- Dividing by 1 changes nothing. -/
theorem div_unit (x : EReal) : Ideal.div x 1 = x := by
  rw [← EReal.coe_one, Ideal.div_coe (by norm_num)]; simp

/-- The word the kernel computes for "row number divided by 32, rounded down", in signed arithmetic. -/
abbrev chanWord (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector (BitVec.ofNat 32 n) 32#32) 0#32))
    (IntOp.subi (IntOp.divsi ArithUnit.vector (BitVec.ofNat 32 n) 32#32) 1#32)
    (IntOp.divsi ArithUnit.vector (BitVec.ofNat 32 n) 32#32)

/-- On the 1024 row numbers that word is the quotient by 32. -/
theorem chanWord_eq : ∀ k : Fin 1024, chanWord k.val = BitVec.ofNat 32 (k.val / 32) := by decide +kernel

/-- Choosing by that word compared with `c` is choosing by whether `c` is the row's channel. -/
theorem select_chan {α : Type} (k : Fin 1024) (c : Fin 32) (a b : α) :
    Scalar.select (IntOp.cmpi .eq (chanWord k.val) (BitVec.ofNat 32 c.val)) a b = if k.val / 32 = c.val then a else b := by
  rw [chanWord_eq k]
  unfold Scalar.select IntOp.cmpi
  have hk := k.isLt
  have hc := c.isLt
  have : (BitVec.ofNat 32 (k.val / 32) == BitVec.ofNat 32 c.val) = decide (k.val / 32 = c.val) := by
    rw [beq_eq_decide]
    refine decide_eq_decide.mpr ⟨fun h => ?_, fun h => by rw [h]⟩
    have := congrArg BitVec.toNat h
    simp only [BitVec.toNat_ofNat] at this
    omega
  rw [this]
  by_cases h : k.val / 32 = c.val <;> simp [h]

/-- Row `32 c + h` of 1024: hidden unit `h` of channel `c`. -/
abbrev row (c h : Fin 32) : Fin 1024 := ⟨32 * c.val + h.val, by have := c.isLt; have := h.isLt; omega⟩

/-- A sum over the 1024 rows of a value kept on one channel's rows and zero elsewhere is that channel's sum of 32. -/
theorem sum_chan (c : Fin 32) (f : Fin 1024 → EReal) :
    (∑ k : Fin 1024, if k.val / 32 = c.val then f k else 0) = ∑ h : Fin 32, f (row c h) := by
  rw [← Finset.sum_filter]
  refine (Finset.sum_bij (fun h _ => row c h) ?_ ?_ ?_ ?_).symm
  · intro h _
    have := h.isLt
    simp only [Finset.mem_filter, Finset.mem_univ, true_and]
    omega
  · intro a _ b _ hab
    have := congrArg Fin.val hab
    simp only at this
    exact Fin.ext (by omega)
  · intro k hk
    simp only [Finset.mem_filter, Finset.mem_univ, true_and] at hk
    exact ⟨⟨k.val % 32, Nat.mod_lt _ (by norm_num)⟩, Finset.mem_univ _, Fin.ext (by simp only; omega)⟩
  · intro _ _; rfl

/-- The two together: a sum whose terms are chosen by the channel word. -/
theorem sum_select (c : Fin 32) (f : Fin 1024 → EReal) :
    (∑ k : Fin 1024, Scalar.select (IntOp.cmpi .eq (chanWord k.val) (BitVec.ofNat 32 c.val)) (f k) 0) = ∑ h : Fin 32, f (row c h) := by
  simp only [select_chan]
  exact sum_chan c f

end Cert.Words
end
-- ==== Proof.Payload.lean ====
/-
  What the kernel computes from its blocks, read at an index: the four 512-row parts of the baseline, the marks, and the
  pieces of the context and target blocks.
-/
module

public import proofs.«01_k».proof.Proof.Gen.KernelIdeal.Frame
public import proofs.«01_k».proof.Proof.Words

@[expose] public section

set_option maxRecDepth 16384
noncomputable section

open Idealize.ShloMosaic Idealize.ShloMosaic.TcCoe Idealize.SL.Sem

namespace Cert.KernelIdeal.Hand
open Cert.KernelIdeal Cert.KernelIdeal.Gen Cert.Spec Cert.Words

/-- The baseline over the kernel's blocks: the weights are laid out as rows of 1024, hidden unit `h` of channel `c` at `32 c + h`. -/
def baseB (w1 : FVec Ideal S2x1024 .f32) (b1 : FVec Ideal S1x1024 .f32) (w2 : FVec Ideal S1024x1 .f32) (b2 : FVec Ideal S1x32 .f32)
    (n : ℕ) (c : Fin 32) : EReal :=
  (∑ h : Fin 32, unit (w1 (ix2 0 (row c h))) (w1 (ix2 1 (row c h))) (b1 (ix2 0 (row c h))) n * w2 (ix2 (row c h) 0)) + b2 (ix2 0 c)

/-- A converted position of a shifted part, times 1/2048. -/
theorem frac_add (a o : ℕ) (h : a + o < 2 ^ 31) :
    (FloatOps.sitofp .f32 (IntOp.addi (BitVec.ofNat 32 a) (BitVec.ofNat 32 o)) : Ideal .f32) * Ideal.ofBits .f32 973078528#32 = frac (o + a) := by
  have : IntOp.addi (BitVec.ofNat 32 a) (BitVec.ofNat 32 o) = BitVec.ofNat 32 (o + a) := by
    show BitVec.ofNat 32 a + BitVec.ofNat 32 o = _
    rw [← BitVec.ofNat_add, Nat.add_comm]
  rw [this, frac_mul _ (by omega)]

/-- A row of a part is far below the words' range. -/
theorem lt_rows {o : ℕ} (y : S512x32.Idx) (ho : o ≤ 1536 := by decide) : (y 0).val + o < 2 ^ 31 := by
  have : (y 0).val < 512 := (y 0).isLt
  omega

variable (w1 : FVec Ideal S2x1024 .f32) (b1 : FVec Ideal S1x1024 .f32) (w2 : FVec Ideal S1024x1 .f32) (b2 : FVec Ideal S1x32 .f32)

/-- The first-layer weights on the sine, as the kernel loads them. -/
abbrev rowS : FVec Ideal S1x1024 .f32 := View.ld (Val := Elt Ideal) (S := S2x1024) (e' := .f32) w1 (Rect.unit ![0, 0] ![1, 1024] inb_S2x1024_S1x1024_0_0)
/-- The first-layer weights on the cosine, as the kernel loads them. -/
abbrev rowC : FVec Ideal S1x1024 .f32 := View.ld (Val := Elt Ideal) (S := S2x1024) (e' := .f32) w1 (Rect.unit ![1, 0] ![1, 1024] inb_S2x1024_S1x1024_1_0)

/-- The sine row is row 0 of the block. -/
theorem rowS_apply (k : Fin 1024) : rowS w1 (ix2 0 k) = w1 (ix2 0 k) := by unfold rowS; pointwise
/-- The cosine row is row 1 of the block. -/
theorem rowC_apply (k : Fin 1024) : rowC w1 (ix2 0 k) = w1 (ix2 1 k) := by unfold rowC; pointwise

/-- The long sum over 1024 rows, each term kept where the channel word is `c`, is the baseline of channel `c`. -/
theorem chunk_eq (c : Fin 32) (n : ℕ) :
    (∑ k : Fin 1024, Scalar.select (IntOp.cmpi .eq (chanWord k.val) (BitVec.ofNat 32 c.val))
        (max (Ideal.sin (Ideal.ofBits .f32 1086918619#32 * frac n) * rowS w1 (ix2 0 k)
          + Ideal.cos (Ideal.ofBits .f32 1086918619#32 * frac n) * rowC w1 (ix2 0 k) + b1 (ix2 0 k)) 0 * w2 (ix2 k 0)) 0) + b2 (ix2 0 c)
      = baseB w1 b1 w2 b2 n c := by
  rw [sum_select]
  refine congrArg (· + b2 (ix2 0 c)) (Finset.sum_congr rfl fun h _ => ?_)
  rw [rowS_apply, rowC_apply]
  rfl

/-- Rows 0 to 511 of the baseline. -/
theorem part0 (y : S512x32.Idx) :
    k0_pay10 (F := Ideal) (k0_pay5 w2) (k0_pay6 (rowS w1)) (k0_pay7 (rowC w1)) (k0_pay8 b1) b2 y = baseB w1 b1 w2 b2 (y 0).val (y 1) := by
  pointwise [k0_pay10, k0_pay5, k0_pay6, k0_pay7, k0_pay8, k0_pay9]
  rw [frac_add _ 0 (lt_rows y), Nat.zero_add]
  exact chunk_eq w1 b1 w2 b2 (y 1) _

/-- Rows 512 to 1023 of the baseline. -/
theorem part1 (y : S512x32.Idx) :
    k0_pay12 (F := Ideal) (k0_pay5 w2) (k0_pay9 b2) (k0_pay11 (k0_pay6 (rowS w1)) (k0_pay7 (rowC w1)) (k0_pay8 b1)) y
      = baseB w1 b1 w2 b2 (512 + (y 0).val) (y 1) := by
  pointwise [k0_pay12, k0_pay5, k0_pay9, k0_pay11, k0_pay6, k0_pay7, k0_pay8]
  rw [frac_add _ 512 (lt_rows y)]
  exact chunk_eq w1 b1 w2 b2 (y 1) _

/-- Rows 1024 to 1535 of the baseline. -/
theorem part2 (y : S512x32.Idx) :
    k0_pay13 (F := Ideal) (k0_pay5 w2) (k0_pay6 (rowS w1)) (k0_pay7 (rowC w1)) (k0_pay8 b1) (k0_pay9 b2) y
      = baseB w1 b1 w2 b2 (1024 + (y 0).val) (y 1) := by
  pointwise [k0_pay13, k0_pay5, k0_pay9, k0_pay6, k0_pay7, k0_pay8]
  rw [frac_add _ 1024 (lt_rows y)]
  exact chunk_eq w1 b1 w2 b2 (y 1) _

/-- Rows 1536 to 2047 of the baseline. -/
theorem part3 (y : S512x32.Idx) :
    k0_pay16 (F := Ideal) (k0_pay5 w2) (k0_pay6 (rowS w1)) (k0_pay7 (rowC w1)) (k0_pay8 b1) (k0_pay9 b2) k0_pay14 k0_pay15 y
      = baseB w1 b1 w2 b2 (1536 + (y 0).val) (y 1) := by
  pointwise [k0_pay16, k0_pay5, k0_pay9, k0_pay6, k0_pay7, k0_pay8, k0_pay14, k0_pay15]
  rw [frac_add _ 1536 (lt_rows y)]
  exact chunk_eq w1 b1 w2 b2 (y 1) _

/-- The kernel's choice of mark by a signed comparison of the row number is the mark. -/
theorem mark_eq (n : ℕ) (h : n < 4096) :
    Scalar.select (IntOp.cmpi .slt (BitVec.ofNat 32 n) 2048#32)
      ((FloatOps.sitofp .f32 (BitVec.ofNat 32 n) : Ideal .f32) * Ideal.ofBits .f32 973078528#32)
      ((FloatOps.sitofp .f32 (IntOp.subi (BitVec.ofNat 32 n) 2048#32) : Ideal .f32) * Ideal.ofBits .f32 973078528#32) = mark n := by
  unfold mark
  have hc : IntOp.cmpi .slt (BitVec.ofNat 32 n) 2048#32 = BitVec.ofBool (decide (n < 2048)) := by
    rw [WordCmp.cmpi_slt_of_lt (by rw [BitVec.toNat_ofNat]; omega) (by decide)]
    simp only [BitVec.toNat_ofNat]
    congr 1
    refine decide_eq_decide.mpr ?_
    omega
  rw [hc]
  by_cases hn : n < 2048
  · simp only [hn, decide_true, if_true, Scalar.select]
    exact frac_mul n (by omega)
  · have hs : IntOp.subi (BitVec.ofNat 32 n) 2048#32 = BitVec.ofNat 32 (n - 2048) := by
      apply BitVec.eq_of_toNat_eq
      show (BitVec.ofNat 32 n - 2048#32).toNat = _
      rw [BitVec.toNat_sub, BitVec.toNat_ofNat, BitVec.toNat_ofNat, BitVec.toNat_ofNat]
      omega
    rw [hs]
    simp only [hn, decide_false, if_false, Scalar.select]
    exact frac_mul _ (by omega)

/-- The context marks' block. -/
theorem marks5 (y : S1x1x4096.Idx) : k0_pay18 (F := Ideal) y = mark (y 2).val := by
  pointwise [k0_pay18, k0_pay17]
  exact mark_eq _ (y 2).isLt

/-- The target marks' block. -/
theorem marks7 (y : S1x1x4096.Idx) : k0_pay19 (F := Ideal) y = mark (y 2).val := by
  pointwise [k0_pay19, k0_pay17]
  exact mark_eq _ (y 2).isLt

/-- The input block less the baseline's rows. -/
theorem diff (x : FVec Ideal S1x2048x32 .f32) (p : FVec Ideal S2048x32 .f32) (y : S1x2048x32.Idx) :
    k0_pay20 (F := Ideal) x p y = x y - p (ix2 (y 1) (y 2)) := by
  pointwise [k0_pay20]

/-- The mask beside it: ones. -/
theorem ones6 (y : S1x2048x32.Idx) : k0_pay1 (F := Ideal) k0_pay21 y = (1 : EReal) := by
  pointwise [k0_pay1, k0_pay21]

/-- The context's later rows: zeros. -/
theorem zeros6 (y : S1x2048x64.Idx) : k0_pay2 (F := Ideal) y = (0 : EReal) := by
  pointwise [k0_pay2]

/-- The target's first rows: zeros. -/
theorem zeros8 (y : S1x2048x64.Idx) : k0_pay3 (F := Ideal) y = (0 : EReal) := by
  pointwise [k0_pay3]

/-- The target's later rows: ones. -/
theorem ones8 (y : S1x2048x64.Idx) : k0_pay4 (F := Ideal) y = (1 : EReal) := by
  pointwise [k0_pay4]

end Cert.KernelIdeal.Hand
end
-- ==== Proof.Stores.lean ====
/-
  What every grid point leaves: the scratch holds the baseline from the first point on, and the four output blocks hold the
  marks, the context of the point's batch, and the target.
-/
module

public import proofs.«01_k».proof.Proof.Payload
public import Idealize.ShloMosaic.Lib.Pipeline.ReadBack

@[expose] public section

set_option maxRecDepth 16384
noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Spec Cert.Words

/-- The baseline as a whole block of 2048 rows. -/
def baseBlk (w1 : FVec Ideal S2x1024 .f32) (b1 : FVec Ideal S1x1024 .f32) (w2 : FVec Ideal S1024x1 .f32) (b2 : FVec Ideal S1x32 .f32) :
    FVec Ideal S2048x32 .f32 := fun y => baseB w1 b1 w2 b2 (y 0).val (y 1)

/-- The context block from one batch's rows and the baseline. -/
def ctxBlk (x : FVec Ideal S1x2048x32 .f32) (p : FVec Ideal S2048x32 .f32) : FVec Ideal S1x4096x64 .f32 := fun y =>
  if hr : (y 1).val < 2048 then
    if hc : (y 2).val < 32 then x (ix3 0 ⟨(y 1).val, hr⟩ ⟨(y 2).val, hc⟩) - p (ix2 ⟨(y 1).val, hr⟩ ⟨(y 2).val, hc⟩) else 1
  else 0

/-- The target block. -/
def tgtBlk : FVec Ideal S1x4096x64 .f32 := fun y => if (y 1).val < 2048 then 0 else 1

section
variable (w1 : FVec Ideal S2x1024 .f32) (b1 : FVec Ideal S1x1024 .f32) (w2 : FVec Ideal S1024x1 .f32) (b2 : FVec Ideal S1x32 .f32)

/-- The four stores of the first point into the scratch, the last one first. -/
abbrev baseStores : List (View.Piece (Elt Ideal) S2048x32 .f32) :=
  [⟨Rect.unit ![1536, 0] ![512, 32] inb_S2048x32_S512x32_1536_0,
      k0_pay16 (F := Ideal) (k0_pay5 w2) (k0_pay6 (rowS w1)) (k0_pay7 (rowC w1)) (k0_pay8 b1) (k0_pay9 b2) k0_pay14 k0_pay15⟩,
   ⟨Rect.unit ![1024, 0] ![512, 32] inb_S2048x32_S512x32_1024_0,
      k0_pay13 (F := Ideal) (k0_pay5 w2) (k0_pay6 (rowS w1)) (k0_pay7 (rowC w1)) (k0_pay8 b1) (k0_pay9 b2)⟩,
   ⟨Rect.unit ![512, 0] ![512, 32] inb_S2048x32_S512x32_512_0,
      k0_pay12 (F := Ideal) (k0_pay5 w2) (k0_pay9 b2) (k0_pay11 (k0_pay6 (rowS w1)) (k0_pay7 (rowC w1)) (k0_pay8 b1))⟩,
   ⟨Rect.unit ![0, 0] ![512, 32] inb_S2048x32_S512x32_0_0,
      k0_pay10 (F := Ideal) (k0_pay5 w2) (k0_pay6 (rowS w1)) (k0_pay7 (rowC w1)) (k0_pay8 b1) b2⟩]

/-- Equal positions and channels have equal baselines. -/
theorem baseB_congr {n n' : ℕ} {c c' : Fin 32} (hn : n = n') (hc : c.val = c'.val) : baseB w1 b1 w2 b2 n c = baseB w1 b1 w2 b2 n' c' := by
  subst hn; rw [Fin.ext hc]

/-- The four stores together are the baseline block. -/
theorem baseStores_eq : View.canon (baseStores w1 b1 w2 b2) = baseBlk w1 b1 w2 b2 := by
  funext y
  unfold baseBlk
  canon_tiles x h
  · exact (part3 w1 b1 w2 b2 x).trans (baseB_congr _ _ _ _ h0.symm h1.symm)
  · exact (part2 w1 b1 w2 b2 x).trans (baseB_congr _ _ _ _ h0.symm h1.symm)
  · exact (part1 w1 b1 w2 b2 x).trans (baseB_congr _ _ _ _ h0.symm h1.symm)
  · exact (part0 w1 b1 w2 b2 x).trans (baseB_congr _ _ _ _ h0.symm h1.symm)
end

/-- The three stores of the context block, the last one first. -/
abbrev ctxStores (x : FVec Ideal S1x2048x32 .f32) (p : FVec Ideal S2048x32 .f32) : List (View.Piece (Elt Ideal) S1x4096x64 .f32) :=
  [⟨Rect.unit ![0, 2048, 0] ![1, 2048, 64] inb_S1x4096x64_S1x2048x64_0_2048_0, k0_pay2 (F := Ideal)⟩,
   ⟨Rect.unit ![0, 0, 32] ![1, 2048, 32] inb_S1x4096x64_S1x2048x32_0_0_32, k0_pay1 (F := Ideal) k0_pay21⟩,
   ⟨Rect.unit ![0, 0, 0] ![1, 2048, 32] inb_S1x4096x64_S1x2048x32_0_0_0, k0_pay20 (F := Ideal) x p⟩]

/-- They cover the block. -/
theorem ctxStores_cover (x : FVec Ideal S1x2048x32 .f32) (p : FVec Ideal S2048x32 .f32) (y : S1x4096x64.Idx) :
    ∃ q ∈ ctxStores x p, y ∈ q.1.set :=
  View.cover_of_tiledBy (ctxStores x p) ![1, 2048, 32] (by sl_kernel_rfl) y

/-- They are the context block. -/
theorem ctxStores_eq (x : FVec Ideal S1x2048x32 .f32) (p : FVec Ideal S2048x32 .f32) : View.canon (ctxStores x p) = ctxBlk x p := by
  funext y
  unfold ctxBlk
  canon_tiles z h using ctxStores_cover x p y
  · rw [dif_neg (by omega)]; exact zeros6 z
  · rw [dif_pos (by omega), dif_neg (by omega)]; exact ones6 z
  · rw [dif_pos (by omega), dif_pos (by omega)]
    refine (diff x p z).trans ?_
    congr 1
    · blk_ext
    · blk_ext

/-- The two stores of the target block are the target block. -/
theorem tgtStores_eq :
    View.canon (Val := Elt Ideal) (s := S1x4096x64) (e := .f32)
      [⟨Rect.unit ![0, 2048, 0] ![1, 2048, 64] inb_S1x4096x64_S1x2048x64_0_2048_0, k0_pay4 (F := Ideal)⟩,
       ⟨Rect.unit ![0, 0, 0] ![1, 2048, 64] inb_S1x4096x64_S1x2048x64_0_0_0, k0_pay3 (F := Ideal)⟩] = tgtBlk := by
  funext y
  unfold tgtBlk
  canon_tiles z h
  · rw [if_neg (by omega)]; exact ones8 z
  · rw [if_pos (by omega)]; exact zeros8 z

variable (m : (ℓ : Loc nD τ sig) → Buf (Elt Ideal) ℓ)

/-- The index maps: the batched windows are at block `t` of the batch, the others at their only block. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] ∧ win0_6.index t = ![t.val, 0, 0]
    ∧ win0_7.index t = ![t.val, 0, 0] ∧ win0_8.index t = ![t.val, 0, 0] :=
  (by decide +kernel : ∀ t : Fin grid0.N, _)

/-- The baseline over the arrays the region starts from. -/
def baseV (c : Dev nD) : FVec Ideal S2048x32 .f32 :=
  baseBlk (V m c main_call0_v1) (V m c main_call0_v2) (V m c main_call0_v3) (V m c main_call0_v4)

/-- The first-layer weights' block is their whole array. -/
theorem iblk1 (c : Dev nD) (t : Fin cfg0.N) : iblk m c 1 t = V m c main_call0_v1 := by blk_ext! [iblk, idx t]
/-- The first-layer biases' block is their whole array. -/
theorem iblk2 (c : Dev nD) (t : Fin cfg0.N) : iblk m c 2 t = V m c main_call0_v2 := by blk_ext! [iblk, idx t]
/-- The second-layer weights' block is their whole array. -/
theorem iblk3 (c : Dev nD) (t : Fin cfg0.N) : iblk m c 3 t = V m c main_call0_v3 := by blk_ext! [iblk, idx t]
/-- The second-layer biases' block is their whole array. -/
theorem iblk4 (c : Dev nD) (t : Fin cfg0.N) : iblk m c 4 t = V m c main_call0_v4 := by blk_ext! [iblk, idx t]

/-- At the first point the scratch's four stores, over that point's blocks, are the baseline. -/
theorem stores_first (c : Dev nD) (t : Fin cfg0.N) :
    View.canon (baseStores (iblk m c 1 t) (iblk m c 2 t) (iblk m c 3 t) (iblk m c 4 t)) = baseV m c := by
  rw [baseStores_eq]
  unfold baseV
  rw [← iblk1 m c t, ← iblk2 m c t, ← iblk3 m c t, ← iblk4 m c t]

/-- After every point the scratch holds the baseline: the first point writes it and the others leave it. -/
theorem scratch_eq (c : Dev nD) : ∀ (n : ℕ) (h : n < cfg0.N), (outsAt0 m c n h).2.2.2.2 = baseV m c
  | 0, h => by
    rw [show outsAt0 m c 0 h = _ from outsAt0_A m c ⟨0, h⟩ rfl]
    frame_out
    exact stores_first m c _
  | n + 1, h => by
    have hN : n + 1 < 16 := h
    rw [show outsAt0 m c (n + 1) h = _ from outsAt0_B m c ⟨n + 1, h⟩ (by show ¬ (n + 1) % 16 = 0; omega)]
    frame_out
    exact scratch_eq c n _

/-- The context's marks block after any point. -/
theorem out5 (c : Dev nD) (t : Fin cfg0.N) : (outsAt0 m c t.val t.isLt).1 = k0_pay18 (F := Ideal) := by
  by_cases h0 : t.val % 16 = 0
  · rw [outsAt0_A m c t h0]; frame_out
  · rw [outsAt0_B m c t h0]; frame_out

/-- The context block after any point: the point's batch of `x` and the baseline. -/
theorem out6 (c : Dev nD) (t : Fin cfg0.N) : (outsAt0 m c t.val t.isLt).2.1 = ctxBlk (iblk m c 0 t) (baseV m c) := by
  by_cases h0 : t.val % 16 = 0
  · rw [outsAt0_A m c t h0]
    frame_out
    refine (ctxStores_eq _ _).trans (congrArg (ctxBlk _) ?_)
    refine Eq.trans ?_ (stores_first m c t)
    rw [View.readCov_eq_canon']
    funext j
    refine congrArg _ (funext fun a => Fin.ext ?_)
    rw [Rect.idx_unit_val]
    fin_cases a <;> exact Nat.zero_add _
  · rw [outsAt0_B m c t h0]
    frame_out
    simp only [read_unread_whole]
    refine (ctxStores_eq _ _).trans (congrArg (ctxBlk _) ?_)
    exact scratch_eq m c _ _

/-- The target's marks block after any point. -/
theorem out7 (c : Dev nD) (t : Fin cfg0.N) : (outsAt0 m c t.val t.isLt).2.2.1 = k0_pay19 (F := Ideal) := by
  by_cases h0 : t.val % 16 = 0
  · rw [outsAt0_A m c t h0]; frame_out
  · rw [outsAt0_B m c t h0]; frame_out

/-- The target block after any point. -/
theorem out8 (c : Dev nD) (t : Fin cfg0.N) : (outsAt0 m c t.val t.isLt).2.2.2.1 = tgtBlk := by
  by_cases h0 : t.val % 16 = 0
  · rw [outsAt0_A m c t h0]; frame_out; exact tgtStores_eq
  · rw [outsAt0_B m c t h0]; frame_out; exact tgtStores_eq

end Cert.KernelIdeal.Hand
end
-- ==== Proof.Arrays.lean ====
/-
  The four result arrays after the run, over the argument arrays: the host operations before the launch only lay the weights out
  anew, every batch's block is written once, and the host operations after it only drop a unit axis.
-/
module

public import proofs.«01_k».proof.Proof.Stores

@[expose] public section

set_option maxRecDepth 16384
noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Spec Cert.Words

variable (m : (ℓ : Loc nD τ sig) → Buf (Elt Ideal) ℓ)

/-- `x`, as launched. -/
abbrev argX (c : Dev nD) : FVec Ideal S16x2048x32 .f32 := m ((c : Thread nD τ).loc main_arg0)
/-- The first-layer weights, as launched. -/
abbrev argW1 (c : Dev nD) : FVec Ideal S32x2x32 .f32 := m ((c : Thread nD τ).loc main_arg1)
/-- The first-layer biases, as launched. -/
abbrev argB1 (c : Dev nD) : FVec Ideal S32x32 .f32 := m ((c : Thread nD τ).loc main_arg2)
/-- The second-layer weights, as launched. -/
abbrev argW2 (c : Dev nD) : FVec Ideal S32x32x1 .f32 := m ((c : Thread nD τ).loc main_arg3)
/-- The second-layer biases, as launched. -/
abbrev argB2 (c : Dev nD) : FVec Ideal S32x1 .f32 := m ((c : Thread nD τ).loc main_arg4)

/-- The first-layer weights at the launch: the two inputs' rows, each of all channels' hidden units. -/
theorem entry1 (c : Dev nD) (d : Fin 2) (k h : Fin 32) :
    (V m c main_call0_v1 : FVec Ideal S2x1024 .f32) (ix2 d (row k h)) = argW1 m c (ix3 k d h) := by
  show StableHlo.after hostOps0 (fun b => m (c, b)) (Proc.devRef .tc main_call0_v1) (ix2 d (row k h)) = _
  simp only [hostOps0]
  after_results_simp
  simp only [StableHlo.TRef.toBuf, StableHlo.TRef.ofBuf, cast_eq]
  pointwise
  blk_ext

/-- The first-layer biases at the launch. -/
theorem entry2 (c : Dev nD) (k h : Fin 32) :
    (V m c main_call0_v2 : FVec Ideal S1x1024 .f32) (ix2 0 (row k h)) = argB1 m c (ix2 k h) := by
  show StableHlo.after hostOps0 (fun b => m (c, b)) (Proc.devRef .tc main_call0_v2) (ix2 0 (row k h)) = _
  simp only [hostOps0]
  after_results_simp
  pointwise
  blk_ext

/-- The second-layer weights at the launch. -/
theorem entry3 (c : Dev nD) (k h : Fin 32) :
    (V m c main_call0_v3 : FVec Ideal S1024x1 .f32) (ix2 (row k h) 0) = argW2 m c (ix3 k h 0) := by
  show StableHlo.after hostOps0 (fun b => m (c, b)) (Proc.devRef .tc main_call0_v3) (ix2 (row k h) 0) = _
  simp only [hostOps0]
  after_results_simp
  pointwise
  blk_ext

/-- The second-layer biases at the launch. -/
theorem entry4 (c : Dev nD) (k : Fin 32) :
    (V m c main_call0_v4 : FVec Ideal S1x32 .f32) (ix2 0 k) = argB2 m c (ix2 k 0) := by
  show StableHlo.after hostOps0 (fun b => m (c, b)) (Proc.devRef .tc main_call0_v4) (ix2 0 k) = _
  simp only [hostOps0]
  after_results_simp
  pointwise

/-- The scratch's baseline is the baseline of the arguments. -/
theorem baseV_apply (c : Dev nD) (y : S2048x32.Idx) :
    baseV m c y = base (argW1 m c) (argB1 m c) (argW2 m c) (argB2 m c) (y 0).val (y 1) := by
  unfold baseV baseBlk baseB base
  refine congrArg₂ (· + ·) (Finset.sum_congr rfl fun h _ => ?_) (entry4 m c (y 1))
  exact congrArg₂ (· * ·)
    (by rw [entry1 m c 0 (y 1) h, entry1 m c 1 (y 1) h, entry2 m c (y 1) h]) (entry3 m c (y 1) h)

/-- The context marks' array after the run. -/
theorem final5 (c : Dev nD) : (dats m 0 c).arrAt 5 (cfgs 0).N = fun i : S16x1x4096.Idx => mark (i 2).val := by
  refine (dats m 0 c).arrAt_eq_of_covers 5 _ (by decide +kernel) fun t _ y => ?_
  blk_simp [idx t]
  rw [after0_5, out5]
  refine (marks5 y).trans (congrArg mark ?_)
  blk_simp [idx t]

/-- The context's array after the run. -/
theorem final6 (c : Dev nD) : (dats m 0 c).arrAt 6 (cfgs 0).N = context (argX m c) (argW1 m c) (argB1 m c) (argW2 m c) (argB2 m c) := by
  refine (dats m 0 c).arrAt_eq_of_covers 6 _ (by decide +kernel) fun t _ y => ?_
  blk_simp [idx t]
  rw [after0_6, out6]
  unfold ctxBlk context
  blk_simp [idx t]
  by_cases hr : (y 1).val < 2048
  · by_cases hc : (y 2).val < 32
    · rw [dif_pos hr, dif_pos hc, dif_pos hr, dif_pos hc]
      refine congrArg₂ (· - ·) ?_ (baseV_apply m c _)
      blk_ext [iblk, V, idx t]
    · rw [dif_pos hr, dif_neg hc, dif_pos hr, dif_neg hc]
  · rw [dif_neg hr, dif_neg hr]

/-- The target marks' array after the run. -/
theorem final7 (c : Dev nD) : (dats m 0 c).arrAt 7 (cfgs 0).N = fun i : S16x1x4096.Idx => mark (i 2).val := by
  refine (dats m 0 c).arrAt_eq_of_covers 7 _ (by decide +kernel) fun t _ y => ?_
  blk_simp [idx t]
  rw [after0_7, out7]
  refine (marks7 y).trans (congrArg mark ?_)
  blk_simp [idx t]

/-- The target's array after the run. -/
theorem final8 (c : Dev nD) : (dats m 0 c).arrAt 8 (cfgs 0).N = target := by
  refine (dats m 0 c).arrAt_eq_of_covers 8 _ (by decide +kernel) fun t _ y => ?_
  blk_simp [idx t]
  rw [after0_8, out8]
  unfold tgtBlk target
  blk_simp [idx t]

/-- The marks' array at an index of the array without the unit axis. -/
theorem squeeze_marks (i : S16x4096.Idx) :
    shapeCast S16x4096 (fun i : S16x1x4096.Idx => mark (i 2).val) shapeCasts_S16x1x4096_S16x4096 i = marks i := by
  pointwise
  rfl

/-- The first result: the context marks' array without its unit axis. -/
theorem tail0 (c : Dev nD) : Pipeline.afterTail₀ cfgs (dats m) 0 (V0 m) [hostOps1] c main_v0_0 = marks := by
  show StableHlo.after hostOps1 (Pipeline.withArrays spec0 c (V0 m c) fun w => (dats m 0 c).arrAt w cfg0.N) (Proc.devRef .tc main_v0_0) = _
  simp only [hostOps1]
  after_results_simp
  rw [show Pipeline.withArrays spec0 c (V0 m c) (fun w => (dats m 0 c).arrAt w cfg0.N) (Proc.devRef .tc main_call0_v5_0) = _ from
    (Pipeline.withArrays_arr spec0 winFacts0.arr_inj c (V0 m c) _ 5).trans (final5 m c)]
  exact funext squeeze_marks

/-- The third result: the target marks' array without its unit axis. -/
theorem tail2 (c : Dev nD) : Pipeline.afterTail₀ cfgs (dats m) 0 (V0 m) [hostOps1] c main_v0_2 = marks := by
  show StableHlo.after hostOps1 (Pipeline.withArrays spec0 c (V0 m c) fun w => (dats m 0 c).arrAt w cfg0.N) (Proc.devRef .tc main_v0_2) = _
  simp only [hostOps1]
  after_results_simp
  rw [show Pipeline.withArrays spec0 c (V0 m c) (fun w => (dats m 0 c).arrAt w cfg0.N) (Proc.devRef .tc main_call0_v5_2) = _ from
    (Pipeline.withArrays_arr spec0 winFacts0.arr_inj c (V0 m c) _ 7).trans (final7 m c)]
  exact funext squeeze_marks

/-- The kernel's run: the four results are the marks, the context, the marks and the target, and the arguments are as launched. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = marks
      ∧ r.2.mem ((c.tc : Thread nD τ).loc main_v0_1) = context (argX m c) (argW1 m c) (argB1 m c) (argW2 m c) (argB2 m c)
      ∧ r.2.mem ((c.tc : Thread nD τ).loc main_v0_2) = marks
      ∧ r.2.mem ((c.tc : Thread nD τ).loc main_v0_3) = target
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0_0 (Pipeline.mem_restRefs_of main_v0_0 (by decide) (by decide))).trans (tail0 m c),
     ((h c).1 6).trans (final6 m c),
     ((h c).2 main_v0_2 (Pipeline.mem_restRefs_of main_v0_2 (by decide) (by decide))).trans (tail2 m c),
     ((h c).1 8).trans (final8 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Hand
end
-- ==== Proof.Reference.lean ====
/-
  The reference's four results, read at an index, are the mathematics of Spec.
-/
module

public import proofs.«01_k».proof.Proof.Gen.ReferenceIdeal.Read
public import proofs.«01_k».proof.Proof.Words

@[expose] public section

set_option maxRecDepth 16384
noncomputable section

open Idealize.ShloMosaic Idealize.ShloMosaic.TcCoe Idealize.SL.Sem

namespace Cert.ReferenceIdeal.Hand
open Cert.ReferenceIdeal Cert.ReferenceIdeal.Gen Cert.ReferenceIdeal.Read Cert.Spec Cert.Words

/-- The reference's mark at row `n`: a converted position of one of the two copies of the grid, divided by 2048. -/
theorem mark_ref (n : ℕ) (h : n < 4096) :
    (if _h : n < 2048 then Ideal.div (FloatOps.sitofp .f32 (BitVec.ofNat 32 n) : Ideal .f32) (Ideal.ofBits .f32 1157627904#32)
      else Ideal.div (FloatOps.sitofp .f32 (BitVec.ofNat 32 (n - 2048)) : Ideal .f32) (Ideal.ofBits .f32 1157627904#32)) = mark n := by
  unfold mark
  rw [frac_div n (by omega), frac_div (n - 2048) (by omega), dite_eq_ite]

/-- The reference's context marks. -/
theorem ref14 : val_main_v14 (F := Ideal) = marks := by
  funext i
  pointwise [val_main_v14, val_main_v3, val_main_v2, val_main_v1, val_main_v0, val_main_v9, val_main_v8, val_main_v7, val_main_v6, val_main_cst, val_main_cst_2]
  exact mark_ref _ (i 1).isLt

/-- The reference's target marks. -/
theorem ref17 : val_main_v17 (F := Ideal) = marks := by
  funext i
  pointwise [val_main_v17, val_main_v3, val_main_v2, val_main_v1, val_main_v0, val_main_v9, val_main_v8, val_main_v7, val_main_v6, val_main_cst, val_main_cst_2]
  exact mark_ref _ (i 1).isLt

/-- The reference's target: the mask against itself beside the mask, which is the mask. -/
theorem ref43 : val_main_v43 (F := Ideal) = target := by
  funext i
  pointwise [val_main_v43, val_main_v41, val_main_v18, val_main_v16, val_main_v12, val_main_v10, val_main_v5, val_main_cst_0, val_main_cst_1, val_main_cst_3, val_main_cst_4, val_main_cst_5]
  show _ = if (i 1).val < 2048 then (0 : EReal) else 1
  by_cases hr : (i 1).val < 2048 <;> by_cases hc : (i 2).val < 32 <;> simp [hr, hc]

/-- The reference's context: on the later rows the mask is zero, and zero times anything is zero. -/
theorem ref42 (x0 : FVec Ideal S16x2048x32 .f32) (x1 : FVec Ideal S32x2x32 .f32) (x2 : FVec Ideal S32x32 .f32) (x3 : FVec Ideal S32x32x1 .f32)
    (x4 : FVec Ideal S32x1 .f32) : val_main_v42 (F := Ideal) x0 x1 x2 x3 x4 = context x0 x1 x2 x3 x4 := by
  funext i
  pointwise [val_main_v42, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v14, val_main_v15, val_main_v13, val_main_v11, val_main_v3, val_main_v2, val_main_v1, val_main_v0, val_main_v4, val_main_v9, val_main_v8, val_main_v7, val_main_v6, val_main_call0_v0, val_main_call0_cst, val_main_cst, val_main_cst_0, val_main_cst_2, val_main_cst_4, val_main_cst_6, val_main_cst_7]
  unfold context
  by_cases hr : (i 1).val < 2048
  · by_cases hc : (i 2).val < 32
    · simp only [hr, hc, dif_pos, div_unit, mul_one]
      refine congrArg₂ (· - ·) rfl ?_
      unfold base unit phase
      refine congrArg₂ (· + ·) (Finset.sum_congr rfl fun h _ => ?_) rfl
      rw [mul_comm, ← frac_div (i 1).val (by omega)]
      simp only [Finset.univ_unique, Finset.sum_singleton]
    · simp only [hr, hc, dif_pos, dif_neg, not_false_eq_true]
  · by_cases hc : (i 2).val < 32
    · simp only [hr, hc, dif_pos, dif_neg, not_false_eq_true, mul_zero]
    · simp only [hr, hc, dif_neg, not_false_eq_true]

end Cert.ReferenceIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.Arrays
public import proofs.«01_k».proof.Proof.Reference

@[expose] public section

noncomputable section

namespace Cert.Proof

open Idealize.ShloMosaic Idealize.SL.Sem Cert.Kernel

open Cert.Spec

/-- The reference's run leaves the arguments as launched and every semaphore at zero. -/
theorem reference_frame [Cert.ReferenceIdeal.Facts] : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The kernel and the reference, run on the same arguments, leave the same four results and the same arguments:
    the marks, the context, the marks again and the target. -/
theorem values : Cert.algebraic_KernelIdeal_ReferenceIdeal := fun m g m' g' _ hagree =>
  ⟨fun _ => marks,
   fun c => context (Cert.KernelIdeal.Hand.argX m c) (Cert.KernelIdeal.Hand.argW1 m c) (Cert.KernelIdeal.Hand.argB1 m c)
     (Cert.KernelIdeal.Hand.argW2 m c) (Cert.KernelIdeal.Hand.argB2 m c),
   fun _ => marks, fun _ => target, Cert.KernelIdeal.Hand.run m g,
   (θ_run Cert.ReferenceIdeal.defs _ _).mono (fun r h c => by
      obtain ⟨h14, h42, h17, h43, hargs⟩ := h c
      obtain ⟨e0, e1, e2, e3, e4⟩ := hagree c
      refine ⟨h14.trans (Cert.ReferenceIdeal.Read.val_main_v14_eq.trans Cert.ReferenceIdeal.Hand.ref14), ?_,
        h17.trans (Cert.ReferenceIdeal.Read.val_main_v17_eq.trans Cert.ReferenceIdeal.Hand.ref17),
        h43.trans (Cert.ReferenceIdeal.Read.val_main_v43_eq.trans Cert.ReferenceIdeal.Hand.ref43), hargs⟩
      refine (h42.trans (Cert.ReferenceIdeal.Read.val_main_v42_eq _ _ _ _ _)).trans ?_
      rw [Cert.ReferenceIdeal.Hand.ref42, e0, e1, e2, e3, e4])
    (Cert.ReferenceIdeal.Value.run (F := Ideal) m' g')⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, values⟩

end Cert.Proof

end
